-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x224x224 : Shape := ⟨4, ![2, 768, 224, 224]⟩
abbrev S1x1x3 : Shape := ⟨3, ![1, 1, 3]⟩
abbrev S_ : Shape := ⟨0, ![]⟩
abbrev S2x768 : Shape := ⟨2, ![2, 768]⟩
abbrev S2x770 : Shape := ⟨2, ![2, 770]⟩
abbrev S3 : Shape := ⟨1, ![3]⟩
abbrev S1 : Shape := ⟨1, ![1]⟩
abbrev S2x224x224x768 : Shape := ⟨4, ![2, 224, 224, 768]⟩
abbrev S100352x768 : Shape := ⟨2, ![100352, 768]⟩
abbrev S3136x768 : Shape := ⟨2, ![3136, 768]⟩
abbrev S768x768 : Shape := ⟨2, ![768, 768]⟩
abbrev S768x2 : Shape := ⟨2, ![768, 2]⟩
abbrev S1x768 : Shape := ⟨2, ![1, 768]⟩
abbrev S768x1 : Shape := ⟨2, ![768, 1]⟩
abbrev S768 : Shape := ⟨1, ![768]⟩

abbrev nBuf : Space → Nat
  | .hbm => 41
  | .vmem => 6
  | .smem => 0
  | _ => 0

abbrev bufTy : (tb : Table) → Fin (tcTables nBuf tb) → BufTy
  | .hbm, ⟨0, _⟩ => ⟨S2x768x224x224, .f32⟩
  | .hbm, ⟨1, _⟩ => ⟨S1x1x3, .f32⟩
  | .hbm, ⟨2, _⟩ => ⟨S_, .f32⟩
  | .hbm, ⟨3, _⟩ => ⟨S2x768, .f32⟩
  | .hbm, ⟨4, _⟩ => ⟨S_, .f32⟩
  | .hbm, ⟨5, _⟩ => ⟨S2x768, .f32⟩
  | .hbm, ⟨6, _⟩ => ⟨S2x768, .f32⟩
  | .hbm, ⟨7, _⟩ => ⟨S_, .i32⟩
  | .hbm, ⟨8, _⟩ => ⟨S_, .f32⟩
  | .hbm, ⟨9, _⟩ => ⟨S2x770, .f32⟩
  | .hbm, ⟨10, _⟩ => ⟨S3, .f32⟩
  | .hbm, ⟨11, _⟩ => ⟨S1, .f32⟩
  | .hbm, ⟨12, _⟩ => ⟨S_, .f32⟩
  | .hbm, ⟨13, _⟩ => ⟨S2x768, .f32⟩
  | .hbm, ⟨14, _⟩ => ⟨S2x768, .f32⟩
  | .hbm, ⟨15, _⟩ => ⟨S2x768, .f32⟩
  | .hbm, ⟨16, _⟩ => ⟨S1, .f32⟩
  | .hbm, ⟨17, _⟩ => ⟨S_, .f32⟩
  | .hbm, ⟨18, _⟩ => ⟨S2x768, .f32⟩
  | .hbm, ⟨19, _⟩ => ⟨S2x768, .f32⟩
  | .hbm, ⟨20, _⟩ => ⟨S2x768, .f32⟩
  | .hbm, ⟨21, _⟩ => ⟨S2x768, .f32⟩
  | .hbm, ⟨22, _⟩ => ⟨S1, .f32⟩
  | .hbm, ⟨23, _⟩ => ⟨S_, .f32⟩
  | .hbm, ⟨24, _⟩ => ⟨S2x768, .f32⟩
  | .hbm, ⟨25, _⟩ => ⟨S2x768, .f32⟩
  | .hbm, ⟨26, _⟩ => ⟨S2x768, .f32⟩
  | .hbm, ⟨27, _⟩ => ⟨S2x768, .f32⟩
  | .hbm, ⟨28, _⟩ => ⟨S2x768, .f32⟩
  | .hbm, ⟨29, _⟩ => ⟨S2x768, .f32⟩
  | .hbm, ⟨30, _⟩ => ⟨S_, .f32⟩
  | .hbm, ⟨31, _⟩ => ⟨S2x768, .f32⟩
  | .hbm, ⟨32, _⟩ => ⟨S2x768, .f32⟩
  | .hbm, ⟨33, _⟩ => ⟨S_, .f32⟩
  | .hbm, ⟨34, _⟩ => ⟨S2x768, .f32⟩
  | .hbm, ⟨35, _⟩ => ⟨S2x768, .f32⟩
  | .hbm, ⟨36, _⟩ => ⟨S2x224x224x768, .f32⟩
  | .hbm, ⟨37, _⟩ => ⟨S100352x768, .f32⟩
  | .hbm, ⟨38, _⟩ => ⟨S100352x768, .f32⟩
  | .hbm, ⟨39, _⟩ => ⟨S2x224x224x768, .f32⟩
  | .hbm, ⟨40, _⟩ => ⟨S2x768x224x224, .f32⟩
  | .local _ .vmem, ⟨0, _⟩ => ⟨S2x768, .f32⟩
  | .local _ .vmem, ⟨1, _⟩ => ⟨S3136x768, .f32⟩
  | .local _ .vmem, ⟨2, _⟩ => ⟨S3136x768, .f32⟩
  | .local _ .vmem, ⟨3, _⟩ => ⟨S3136x768, .f32⟩
  | .local _ .vmem, ⟨4, _⟩ => ⟨S3136x768, .f32⟩
  | .local _ .vmem, ⟨5, _⟩ => ⟨S768x768, .f32⟩
  | _, _ => ⟨S2x768x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_c : Ref sig .tc := ⟨.hbm, 7, rfl⟩
abbrev main_call0_call0_v0 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_v20 : Ref sig .tc := ⟨.hbm, 26, rfl⟩
abbrev main_call0_v21 : Ref sig .tc := ⟨.hbm, 27, rfl⟩
abbrev main_call0_v22 : Ref sig .tc := ⟨.hbm, 28, rfl⟩
abbrev main_call0_v23 : Ref sig .tc := ⟨.hbm, 29, rfl⟩
abbrev main_call0_cst_1 : Ref sig .tc := ⟨.hbm, 30, rfl⟩
abbrev main_call0_v24 : Ref sig .tc := ⟨.hbm, 31, rfl⟩
abbrev main_call0_v25 : Ref sig .tc := ⟨.hbm, 32, rfl⟩
abbrev main_call0_cst_2 : Ref sig .tc := ⟨.hbm, 33, rfl⟩
abbrev main_call0_v26 : Ref sig .tc := ⟨.hbm, 34, rfl⟩
abbrev main_call0_v27 : Ref sig .tc := ⟨.hbm, 35, rfl⟩
abbrev main_call0_v28 : Ref sig .tc := ⟨.hbm, 36, rfl⟩
abbrev main_call0_v29 : Ref sig .tc := ⟨.hbm, 37, rfl⟩
abbrev main_call0_v30 : Ref sig .tc := ⟨.hbm, 38, rfl⟩
abbrev main_call0_v31 : Ref sig .tc := ⟨.hbm, 39, rfl⟩
abbrev main_v0 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3136x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3136x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x768x224x224 : Shape := ⟨4, ![2, 768, 224, 224]⟩
abbrev S1x1x3 : Shape := ⟨3, ![1, 1, 3]⟩
abbrev S_ : Shape := ⟨0, ![]⟩
abbrev S2x768 : Shape := ⟨2, ![2, 768]⟩
abbrev S2x770 : Shape := ⟨2, ![2, 770]⟩
abbrev S3 : Shape := ⟨1, ![3]⟩
abbrev S1 : Shape := ⟨1, ![1]⟩
abbrev S2x768x1x1 : Shape := ⟨4, ![2, 768, 1, 1]⟩
abbrev S2x768x1 : Shape := ⟨3, ![2, 768, 1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S2x768x224x224, .f32⟩
  | .hbm, ⟨1, _⟩ => ⟨S1x1x3, .f32⟩
  | .hbm, ⟨2, _⟩ => ⟨S_, .f32⟩
  | .hbm, ⟨3, _⟩ => ⟨S2x768, .f32⟩
  | .hbm, ⟨4, _⟩ => ⟨S_, .f32⟩
  | .hbm, ⟨5, _⟩ => ⟨S2x768, .f32⟩
  | .hbm, ⟨6, _⟩ => ⟨S2x768, .f32⟩
  | .hbm, ⟨7, _⟩ => ⟨S_, .i32⟩
  | .hbm, ⟨8, _⟩ => ⟨S_, .f32⟩
  | .hbm, ⟨9, _⟩ => ⟨S2x770, .f32⟩
  | .hbm, ⟨10, _⟩ => ⟨S3, .f32⟩
  | .hbm, ⟨11, _⟩ => ⟨S1, .f32⟩
  | .hbm, ⟨12, _⟩ => ⟨S_, .f32⟩
  | .hbm, ⟨13, _⟩ => ⟨S2x768, .f32⟩
  | .hbm, ⟨14, _⟩ => ⟨S2x768, .f32⟩
  | .hbm, ⟨15, _⟩ => ⟨S2x768, .f32⟩
  | .hbm, ⟨16, _⟩ => ⟨S1, .f32⟩
  | .hbm, ⟨17, _⟩ => ⟨S_, .f32⟩
  | .hbm, ⟨18, _⟩ => ⟨S2x768, .f32⟩
  | .hbm, ⟨19, _⟩ => ⟨S2x768, .f32⟩
  | .hbm, ⟨20, _⟩ => ⟨S2x768, .f32⟩
  | .hbm, ⟨21, _⟩ => ⟨S2x768, .f32⟩
  | .hbm, ⟨22, _⟩ => ⟨S1, .f32⟩
  | .hbm, ⟨23, _⟩ => ⟨S_, .f32⟩
  | .hbm, ⟨24, _⟩ => ⟨S2x768, .f32⟩
  | .hbm, ⟨25, _⟩ => ⟨S2x768, .f32⟩
  | .hbm, ⟨26, _⟩ => ⟨S2x768, .f32⟩
  | .hbm, ⟨27, _⟩ => ⟨S2x768, .f32⟩
  | .hbm, ⟨28, _⟩ => ⟨S2x768, .f32⟩
  | .hbm, ⟨29, _⟩ => ⟨S2x768, .f32⟩
  | .hbm, ⟨30, _⟩ => ⟨S_, .f32⟩
  | .hbm, ⟨31, _⟩ => ⟨S2x768, .f32⟩
  | .hbm, ⟨32, _⟩ => ⟨S2x768, .f32⟩
  | .hbm, ⟨33, _⟩ => ⟨S_, .f32⟩
  | .hbm, ⟨34, _⟩ => ⟨S2x768, .f32⟩
  | .hbm, ⟨35, _⟩ => ⟨S2x768, .f32⟩
  | .hbm, ⟨36, _⟩ => ⟨S2x768, .f32⟩
  | .hbm, ⟨37, _⟩ => ⟨S2x768, .i32⟩
  | .hbm, ⟨38, _⟩ => ⟨S2x768x1x1, .i32⟩
  | .hbm, ⟨39, _⟩ => ⟨S_, .i32⟩
  | .hbm, ⟨40, _⟩ => ⟨S2x768x1x1, .i32⟩
  | .hbm, ⟨41, _⟩ => ⟨S2x768x1x1, .i1⟩
  | .hbm, ⟨42, _⟩ => ⟨S_, .i32⟩
  | .hbm, ⟨43, _⟩ => ⟨S2x768x1x1, .i32⟩
  | .hbm, ⟨44, _⟩ => ⟨S2x768x1x1, .i32⟩
  | .hbm, ⟨45, _⟩ => ⟨S2x768x1x1, .i32⟩
  | .hbm, ⟨46, _⟩ => ⟨S2x768x1, .i32⟩
  | .hbm, ⟨47, _⟩ => ⟨S1, .i32⟩
  | .hbm, ⟨48, _⟩ => ⟨S_, .i32⟩
  | .hbm, ⟨49, _⟩ => ⟨S2x768x1, .i32⟩
  | .hbm, ⟨50, _⟩ => ⟨S2x768x1, .i1⟩
  | .hbm, ⟨51, _⟩ => ⟨S1x1x1, .i32⟩
  | .hbm, ⟨52, _⟩ => ⟨S2x768x1, .i32⟩
  | .hbm, ⟨53, _⟩ => ⟨S2x768x1, .i1⟩
  | .hbm, ⟨54, _⟩ => ⟨S2x768x1, .i1⟩
  | .hbm, ⟨55, _⟩ => ⟨S_, .i1⟩
  | .hbm, ⟨56, _⟩ => ⟨S2x768, .i1⟩
  | .hbm, ⟨57, _⟩ => ⟨S2x768x224x224, .f32⟩
  | .hbm, ⟨58, _⟩ => ⟨S2x768x224x224, .i1⟩
  | .hbm, ⟨59, _⟩ => ⟨S_, .f32⟩
  | .hbm, ⟨60, _⟩ => ⟨S2x768x224x224, .f32⟩
  | .hbm, ⟨61, _⟩ => ⟨S2x768x224x224, .f32⟩
  | _, _ => ⟨S2x768x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_values : Ref sig .tc := ⟨.hbm, 36, rfl⟩
abbrev main_indices : Ref sig .tc := ⟨.hbm, 37, rfl⟩
abbrev main_v28 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v29 : Ref sig .tc := ⟨.hbm, 61, rfl⟩

abbrev nD : Nat := 1
abbrev τ : Topo := Topo.v7x

variable {F : FTy → Type} [FloatOps F]
-- ==== Proof.Activation.lean ====
/-
  The activations both programs sort by — the sigmoid of a three-tap convolution, along the channels, of the channel
  means — named once, and the two arrays the kernel's grid reads: the table of activations, and the input with its
  channels moved last and everything else flattened to rows.
-/
module

public import proofs.«01_k».proof.Proof.Gen.KernelIdeal.Frame
public import Idealize.ShloMosaic.Lib.StableHlo.Run
public import Idealize.ShloMosaic.PureOps.Ideal.Laws

@[expose] public section

noncomputable section

open Idealize.ShloMosaic Idealize.ShloMosaic.TcCoe Idealize.SL.Sem

namespace Cert.Activation

open Cert.KernelIdeal Cert.KernelIdeal.Gen

/-- The mean of each channel over the image, with a zero before the first channel and after the last. -/
def means (x : FVec Ideal S2x768x224x224 .f32) : FVec Ideal S2x770 .f32 :=
  pad S2x770 ![0, 1] ![0, 1] ![0, 0]
    (Host.divf (Host.reduceAdd x (constant S_ .f32 0x00000000#32) reducesTo_S2x768x224x224_S2x768_d2_3 h_S_)
      (broadcastInDim S2x768 ![] bcast_S_S2x768 (constant S_ .f32 0x47440000#32)))
    (sitofp .f32 (constantI S_ 32 0#32)) pads_S2x768_S2x770_000_110 h_S_

/-- The three weights of the convolution. -/
def weights (w : FVec Ideal S1x1x3 .f32) : FVec Ideal S3 .f32 := shapeCast S3 w shapeCasts_S1x1x3_S3

/-- A single weight, repeated over the table of channels. -/
def repeated (w : FVec Ideal S1 .f32) : FVec Ideal S2x768 .f32 :=
  broadcastInDim S2x768 ![] bcast_S_S2x768 (shapeCast S_ w shapeCasts_S1_S_)

/-- The convolution: each channel's mean and its two neighbours', weighted and summed. -/
def convolved (x : FVec Ideal S2x768x224x224 .f32) (w : FVec Ideal S1x1x3 .f32) : FVec Ideal S2x768 .f32 :=
  addf (addf
    (mulf (repeated (extractStridedSlice S1 ![0] (weights w) slices_S3_S1_0))
      (extractStridedSlice S2x768 ![0, 0] (means x) slices_S2x770_S2x768_0_0))
    (mulf (repeated (extractStridedSlice S1 ![1] (weights w) slices_S3_S1_1))
      (extractStridedSlice S2x768 ![0, 1] (means x) slices_S2x770_S2x768_0_1)))
    (mulf (repeated (extractStridedSlice S1 ![2] (weights w) slices_S3_S1_2))
      (extractStridedSlice S2x768 ![0, 2] (means x) slices_S2x770_S2x768_0_2))

/-- The activations: one over one plus the exponential of the convolution's opposite. -/
def activations (x : FVec Ideal S2x768x224x224 .f32) (w : FVec Ideal S1x1x3 .f32) : FVec Ideal S2x768 .f32 :=
  Host.divf (broadcastInDim S2x768 ![] bcast_S_S2x768 (constant S_ .f32 0x3F800000#32))
    (addf (broadcastInDim S2x768 ![] bcast_S_S2x768 (constant S_ .f32 0x3F800000#32)) (Host.exp (Host.negf (convolved x w))))

variable (m : (ℓ : Loc nD τ sig) → Buf (Elt Ideal) ℓ)

set_option maxHeartbeats 1000000 in
/-- The grid's first operand is the table of activations of the arguments. -/
theorem table_eq (c : Dev nD) :
    V m c main_call0_v27 = activations (m ((c : Thread nD τ).loc main_arg0)) (m ((c : Thread nD τ).loc main_arg1)) := by
  show StableHlo.after (List.flatten [hostOps0]) (fun b => m (c, b)) (Proc.devRef .tc main_call0_v27) = _
  simp only [hostOps0, List.flatten_cons, List.flatten_nil, List.append_nil, StableHlo.TRef.nullary, StableHlo.TRef.unary,
    StableHlo.TRef.binary, StableHlo.TRef.reshape, StableHlo.TRef.toBuf, StableHlo.TRef.ofBuf, cast_eq]
  after_results_simp <;> rfl

set_option maxHeartbeats 1000000 in
/-- The grid's second operand is the input with its channels moved last and everything else flattened to rows. -/
theorem rows_eq (c : Dev nD) :
    V m c main_call0_v29 = shapeCast S100352x768 (transpose S2x224x224x768 [0, 2, 3, 1]
      (m ((c : Thread nD τ).loc main_arg0) : Vec Ideal S2x768x224x224 .f32) transposes_S2x768x224x224_S2x224x224x768_0_2_3_1)
      shapeCasts_S2x224x224x768_S100352x768 := by
  show StableHlo.after (List.flatten [hostOps0]) (fun b => m (c, b)) (Proc.devRef .tc main_call0_v29) = _
  simp only [hostOps0, List.flatten_cons, List.flatten_nil, List.append_nil, StableHlo.TRef.nullary, StableHlo.TRef.unary,
    StableHlo.TRef.binary, StableHlo.TRef.reshape, StableHlo.TRef.toBuf, StableHlo.TRef.ofBuf, cast_eq]
  after_results_simp <;> rfl

end Cert.Activation
-- ==== Proof.Rank.lean ====
/-
  The mathematics shared by the two programs: sorting `n` numbers in decreasing order, equal numbers keeping their order,
  puts at place `k` the number whose RANK is `k`, the rank of a position being how many positions precede it — hold a
  larger number, or an equal one further left. So a sum over the positions that keeps only the one of rank `k` is the
  value at the position the sort puts at `k`.
-/
module

public import Idealize.ShloMosaic.Lib.SortFacts
public import Mathlib.Data.EReal.Operations
public import Mathlib.Order.Interval.Finset.Fin

@[expose] public section

open Idealize.ShloMosaic
open scoped BigOperators

namespace Cert.Rank

variable {α : Type} [LinearOrder α] {n : ℕ}

/-- Position `a` precedes position `b`: it holds a larger number, or an equal one and lies further left. -/
def Precedes (v : Fin n → α) (a b : Fin n) : Prop := v b < v a ∨ (v a = v b ∧ a < b)

/-- Which of two positions precedes the other is decidable: the order of the numbers and of the positions are. -/
instance (v : Fin n → α) : DecidableRel (Precedes v) := fun _ _ => inferInstanceAs (Decidable (_ ∨ _))

/-- Preceding is transitive. -/
theorem Precedes.trans {v : Fin n → α} {a b c : Fin n} (h : Precedes v a b) (h' : Precedes v b c) : Precedes v a c := by
  rcases h with h | ⟨h, hab⟩ <;> rcases h' with h' | ⟨h', hbc⟩
  · exact .inl (h'.trans h)
  · exact .inl (h' ▸ h)
  · exact .inl (h ▸ h')
  · exact .inr ⟨h.trans h', hab.trans hbc⟩

/-- No position precedes itself. -/
theorem Precedes.irrefl {v : Fin n → α} {a : Fin n} : ¬ Precedes v a a := by
  rintro (h | ⟨_, h⟩) <;> exact lt_irrefl _ h

/-- The strict decreasing order the sort is run with. -/
def larger (v : Fin n → α) (a b : Fin n) : Bool := decide (v b < v a)

/-- Inserting a position that lies to the left of every position of a list arranged by precedence leaves a list arranged
    by precedence. -/
theorem pairwise_insert (v : Fin n → α) (a : Fin n) (l : List (Fin n)) (hl : l.Pairwise (Precedes v)) (ha : ∀ b ∈ l, a < b) :
    (insertBefore (larger v) a l).Pairwise (Precedes v) := by
  induction l with
  | nil => exact List.pairwise_singleton _ _
  | cons b l ih =>
    obtain ⟨hb, hl⟩ := List.pairwise_cons.1 hl
    unfold insertBefore
    by_cases h : v a < v b
    · rw [if_pos (by simpa [larger] using h)]
      refine List.pairwise_cons.2 ⟨fun x hx => ?_, ih hl fun b hb => ha b (List.mem_cons_of_mem _ hb)⟩
      rcases List.mem_cons.1 ((perm_insertBefore (larger v) a l).mem_iff.1 hx) with rfl | hx
      · exact .inl h
      · exact hb x hx
    · rw [if_neg (by simpa [larger] using h)]
      have hab : Precedes v a b := by
        rcases lt_or_eq_of_le (not_lt.1 h) with h | h
        · exact .inl h
        · exact .inr ⟨h.symm, ha b List.mem_cons_self⟩
      refine List.pairwise_cons.2 ⟨fun x hx => ?_, List.pairwise_cons.2 ⟨hb, hl⟩⟩
      rcases List.mem_cons.1 hx with rfl | hx
      · exact hab
      · exact hab.trans (hb x hx)

/-- Sorting positions given from left to right arranges them by precedence. -/
theorem pairwise_sort (v : Fin n → α) (l : List (Fin n)) (hl : l.Pairwise (· < ·)) :
    (stableSort (larger v) l).Pairwise (Precedes v) := by
  induction l with
  | nil => exact List.Pairwise.nil
  | cons a l ih =>
    obtain ⟨ha, hl⟩ := List.pairwise_cons.1 hl
    exact pairwise_insert v a _ (ih hl) fun b hb => ha b ((perm_stableSort (larger v) l).mem_iff.1 hb)

/-- The position the sort puts at an earlier place precedes the one it puts at a later place. -/
theorem precedes_of_lt (v : Fin n → α) {i j : Fin n} (h : i < j) :
    Precedes v (sortedFrom (larger v) i) (sortedFrom (larger v) j) :=
  List.pairwise_iff_get.1 (pairwise_sort v (List.finRange n) (List.pairwise_lt_finRange n)) _ _ h

/-- Among the sorted positions precedence is the order of the places. -/
theorem precedes_iff (v : Fin n → α) (i j : Fin n) :
    Precedes v (sortedFrom (larger v) i) (sortedFrom (larger v) j) ↔ i < j := by
  refine ⟨fun h => ?_, precedes_of_lt v⟩
  rcases lt_trichotomy i j with hij | rfl | hij
  · exact hij
  · exact absurd h Precedes.irrefl
  · exact absurd (h.trans (precedes_of_lt v hij)) Precedes.irrefl

/-- The rank of a position: how many positions precede it. -/
def rank (v : Fin n → α) (c : Fin n) : ℕ := (Finset.univ.filter fun d => Precedes v d c).card

/-- The position the sort puts at place `k` has rank `k`. -/
theorem rank_sortedFrom (v : Fin n → α) (k : Fin n) : rank v (sortedFrom (larger v) k) = k := by
  have e : (Finset.univ.filter fun d => Precedes v d (sortedFrom (larger v) k))
      = (Finset.Iio k).image (sortedFrom (larger v)) := by
    ext d
    obtain ⟨i, rfl⟩ := sortedFrom_surjective (larger v) d
    simp [precedes_iff, (sortedFrom_injective (larger v)).eq_iff]
  rw [rank, e, Finset.card_image_of_injective _ (sortedFrom_injective _), Fin.card_Iio]

/-- A position has rank `k` exactly when the sort puts it at place `k`. -/
theorem rank_eq_iff (v : Fin n → α) (c k : Fin n) : rank v c = k ↔ c = sortedFrom (larger v) k := by
  obtain ⟨i, rfl⟩ := sortedFrom_surjective (larger v) c
  rw [rank_sortedFrom, (sortedFrom_injective (larger v)).eq_iff, Fin.ext_iff]

/-- A rank is at most the number of positions. -/
theorem rank_le (v : Fin n → α) (c : Fin n) : rank v c ≤ n :=
  (Finset.card_filter_le _ _).trans (by simp)

/-- A sum of products with the indicator of rank `k` picks the value at the position the sort puts at place `k`, over
    the extended reals too: zero times an infinity is zero. -/
theorem sum_indicator (v : Fin n → α) (x : Fin n → EReal) (k : Fin n) :
    ∑ c, x c * (if rank v c = k then (1 : EReal) else 0) = x (sortedFrom (larger v) k) := by
  rw [Finset.sum_eq_single (sortedFrom (larger v) k)]
  · rw [if_pos (rank_sortedFrom v k), mul_one]
  · intro c _ hc
    rw [if_neg (fun h => hc ((rank_eq_iff v c k).1 h)), mul_zero]
  · intro h; exact absurd (Finset.mem_univ _) h

end Cert.Rank
-- ==== Proof.Payload.lean ====
/-
  What the kernel's two stored values hold, over the extended reals, element by element: the matrix the first step of a
  batch entry stores is the INDICATOR OF THE RANK (row `r`, column `k`: one when the number at `r` has rank `k`, else
  zero), and each block of the result is the input block times that matrix.
-/
module

public import proofs.«01_k».proof.Proof.Rank
public import proofs.«01_k».proof.Proof.Gen.KernelIdeal.Skeleton
public import Idealize.ShloMosaic.Lib.Pipeline.Value
public import Idealize.ShloMosaic.Lib.ValueIdx
public import Idealize.ShloMosaic.Lib.MatmulPlain
public import Idealize.ShloMosaic.Lib.IndicatorCount

@[expose] public section

noncomputable section

open Idealize.ShloMosaic Idealize.ShloMosaic.ValueIdx
open scoped BigOperators

namespace Cert.Payload

open Cert.KernelIdeal Cert.KernelIdeal.Gen Cert.Rank

/-- Row `b` of the table of activations. -/
abbrev row (y : Vec Ideal S2x768 .f32) (b : Fin 2) : Fin 768 → EReal := fun r => y (ix2 b r)

/-- The indicator of the rank in row `b`: one at `(r, k)` when position `r` has rank `k`, else zero. -/
def onehot (y : Vec Ideal S2x768 .f32) (b : Fin 2) : Vec Ideal S768x768 .f32 :=
  fun j => if rank (row y b) (j 0) = (j 1 : Fin 768).val then (1 : EReal) else 0

/-! ## The comparison bit and its count -/

/-- A one-bit word made from a truth value is one exactly when it is true. -/
theorem ofBool_eq_one (p : Bool) : BitVec.ofBool p = 1#1 ↔ p = true := by cases p <;> decide

/-- The comparison the kernel makes between positions `j` and `r` holds exactly when `j` precedes `r`. -/
theorem bit_iff (v : Fin 768 → EReal) (r j : Fin 768) :
    IntOp.ori (FloatOps.cmpf (F := Ideal) (φ := .f32) .ogt (v j) (v r))
      (IntOp.andi (FloatOps.cmpf (F := Ideal) (φ := .f32) .oeq (v j) (v r))
        (IntOp.cmpi .slt (BitVec.ofNat 32 j.val) (BitVec.ofNat 32 r.val))) = 1#1 ↔ Precedes v j r := by
  have hlt : (BitVec.ofNat 32 j.val).slt (BitVec.ofNat 32 r.val) = decide (j < r) := by
    have hj := j.isLt; have hr := r.isLt
    rw [BitVec.slt, BitVec.toInt_eq_toNat_of_lt, BitVec.toInt_eq_toNat_of_lt]
    · simp only [BitVec.toNat_ofNat, Fin.lt_def]
      rw [Nat.mod_eq_of_lt (by omega), Nat.mod_eq_of_lt (by omega)]
      simp
    all_goals (rw [BitVec.toNat_ofNat]; omega)
  rw [Ideal.cmpf_def, Ideal.cmpf_def]
  unfold Ideal.cmp IntOp.cmpi
  dsimp only
  rw [hlt]
  unfold Precedes
  show BitVec.ofBool _ ||| (BitVec.ofBool _ &&& BitVec.ofBool _) = 1#1 ↔ _
  by_cases h1 : v r < v j <;> by_cases h2 : v j = v r <;> by_cases h3 : j < r <;> simp [h1, h2, h3]

/-- Deleting the second coordinate of an index of a square table leaves the first. -/
theorem drop_eq (i : S768x768.Idx) : reduces_S768x768_S768.drop i = ix1 (n := 768) (i 0) := by
  funext b
  match b with
  | ⟨0, _⟩ => rfl

/-- Counting the ones of a table of bits along a row. -/
theorem count_row (p : IVec S768x768 1) (r : Fin 768) :
    multiReductionI .add [1] S768 (extui 32 p natLt_1_32) 0#32 reduces_S768x768_S768 rfl (ix1 r : S768.Idx)
      = BitVec.ofNat 32 (Finset.univ.filter fun j : Fin 768 => p (ix2 r j) = 1#1).card := by
  refine (multiReductionI_eq_fold .add (extui 32 p natLt_1_32) 0#32 reduces_S768x768_S768 rfl (ix1 r)).trans ?_
  refine (IndicatorCount.fold_addi_setWidth_eq_card p _).trans (congrArg _ ?_)
  rw [← Finset.card_image_of_injective (Finset.univ.filter fun j : Fin 768 => p (ix2 r j) = 1#1)
    (f := fun j : Fin 768 => (ix2 r j : S768x768.Idx)) fun a b h => congrFun h 1]
  refine congrArg _ (Finset.ext fun i => ?_)
  simp only [Finset.mem_filter, Finset.mem_univ, true_and, Finset.mem_image]
  constructor
  · rintro ⟨hd, hp⟩
    have h0 : i 0 = r := by rw [drop_eq] at hd; exact congrFun hd 0
    have e : (ix2 r (i 1) : S768x768.Idx) = i := by rw [← h0]; exact (eq_ix2 i).symm
    exact ⟨i 1, by rw [e]; exact hp, e⟩
  · rintro ⟨j, hp, rfl⟩
    exact ⟨drop_eq _, hp⟩

/-- A rank as a word equals a column number as a word exactly when the two numbers are equal. -/
theorem word_eq_iff {a : ℕ} (ha : a ≤ 768) (k : Fin 768) : (BitVec.ofNat 32 a == BitVec.ofNat 32 k.val) = decide (a = k.val) := by
  have hk := k.isLt
  rw [Bool.eq_iff_iff, beq_iff_eq, decide_eq_true_iff]
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this

/-- A truth value widened to a word and read as a number is one or zero. -/
theorem sitofp_bit (p : Bool) :
    FloatOps.sitofp (F := Ideal) .f32 ((BitVec.ofBool p).setWidth 32) = if p = true then (1 : EReal) else 0 := by
  show ((((BitVec.ofBool p).setWidth 32).toInt : ℝ) : EReal) = _
  cases p
  · have : ((BitVec.ofBool false).setWidth 32).toInt = 0 := by decide
    rw [this]; simp
  · have : ((BitVec.ofBool true).setWidth 32).toInt = 1 := by decide
    rw [this]; simp

/-! ## The row of activations, laid along the rows and along the columns -/

/-- Of two vectors, the one the batch entry's number selects. -/
theorem select_batch {α : Type} (b : Fin 2) (x y : α) :
    Scalar.select (Scalar.cmpi .eq (BitVec.ofNat 32 b.val) 0#32) x y = if b = 0 then x else y := by
  match b with
  | ⟨0, _⟩ => rfl
  | ⟨1, _⟩ => rfl

/-- The selected row, repeated down the table. -/
def down (y : Vec Ideal S2x768 .f32) (b : Fin 2) : FVec Ideal S768x768 .f32 :=
  broadcastTo S768x768 (shapeCast S1x768 (Scalar.select (Scalar.cmpi .eq (BitVec.ofNat 32 b.val) 0#32)
      (extractStridedSlice S1x768 ![0, 0] y slices_S2x768_o0_0_S1x768)
      (extractStridedSlice S1x768 ![1, 0] y slices_S2x768_o1_0_S1x768)) shapeCasts_S1x768_S1x768)
    broadcasts_S1x768_S768x768

/-- The selected column, repeated across the table. -/
def across (y : Vec Ideal S2x768 .f32) (b : Fin 2) : FVec Ideal S768x768 .f32 :=
  broadcastTo S768x768 (shapeCast S768x1 (Scalar.select (Scalar.cmpi .eq (BitVec.ofNat 32 b.val) 0#32)
      (extractStridedSlice S768x1 ![0, 0] (transpose S768x2 [1, 0] y transposes_S2x768_p1_0_S768x2) slices_S768x2_o0_0_S768x1)
      (extractStridedSlice S768x1 ![0, 1] (transpose S768x2 [1, 0] y transposes_S2x768_p1_0_S768x2) slices_S768x2_o0_1_S768x1))
      shapeCasts_S768x1_S768x1)
    broadcasts_S768x1_S768x768

/-- The comparisons, position by position: which column's number precedes which row's. -/
def bits (y : Vec Ideal S2x768 .f32) (b : Fin 2) : IVec S768x768 1 :=
  ori (cmpf .ogt (down y b) (across y b))
    (andi (cmpf .oeq (down y b) (across y b))
      (cmpi .slt (iota .tc S768x768 32 [1] iota_S768x768_d1_w32) (iota .tc S768x768 32 [0] iota_S768x768_d0_w32)))

/-- The row repeated down the table, at `(r, j)`, is the activation at `j`. -/
theorem down_apply (y : Vec Ideal S2x768 .f32) (b : Fin 2) (r j : Fin 768) : down y b (ix2 r j) = y (ix2 b j) := by
  unfold down
  rw [broadcastTo_apply _ _ (ix2 r j) (ix2 0 j : S1x768.Idx) (by intro a; match a with | ⟨0, _⟩ => rfl | ⟨1, _⟩ => rfl),
    shapeCast_self, select_batch]
  match b with
  | ⟨0, _⟩ =>
    exact extractStridedSlice_apply _ y slices_S2x768_o0_0_S1x768 (ix2 0 j : S1x768.Idx) (ix2 0 j) (by
      intro a; match a with | ⟨0, _⟩ => rfl | ⟨1, _⟩ => exact (Nat.zero_add _).symm)
  | ⟨1, _⟩ =>
    exact extractStridedSlice_apply _ y slices_S2x768_o1_0_S1x768 (ix2 0 j : S1x768.Idx) (ix2 1 j) (by
      intro a; match a with | ⟨0, _⟩ => rfl | ⟨1, _⟩ => exact (Nat.zero_add _).symm)

/-- The column repeated across the table, at `(r, j)`, is the activation at `r`. -/
theorem across_apply (y : Vec Ideal S2x768 .f32) (b : Fin 2) (r j : Fin 768) : across y b (ix2 r j) = y (ix2 b r) := by
  unfold across
  rw [broadcastTo_apply _ _ (ix2 r j) (ix2 r 0 : S768x1.Idx) (by intro a; match a with | ⟨0, _⟩ => rfl | ⟨1, _⟩ => rfl),
    shapeCast_self, select_batch]
  have tr : ∀ q : Fin 2, transpose S768x2 [1, 0] y transposes_S2x768_p1_0_S768x2 (ix2 r q : S768x2.Idx) = y (ix2 q r) := fun q =>
    transpose_apply _ y _ _ (ix2 q r) (by intro a; match a with | ⟨0, _⟩ => rfl | ⟨1, _⟩ => rfl)
  match b with
  | ⟨0, _⟩ =>
    exact (extractStridedSlice_apply _ _ slices_S768x2_o0_0_S768x1 (ix2 r 0 : S768x1.Idx) (ix2 r 0 : S768x2.Idx) (by
      intro a; match a with | ⟨0, _⟩ => exact (Nat.zero_add _).symm | ⟨1, _⟩ => rfl)).trans (tr 0)
  | ⟨1, _⟩ =>
    exact (extractStridedSlice_apply _ _ slices_S768x2_o0_1_S768x1 (ix2 r 0 : S768x1.Idx) (ix2 r 1 : S768x2.Idx) (by
      intro a; match a with | ⟨0, _⟩ => exact (Nat.zero_add _).symm | ⟨1, _⟩ => rfl)).trans (tr 1)

/-- The comparison at `(r, c)` is one exactly when position `c` precedes position `r`. -/
theorem bits_apply (y : Vec Ideal S2x768 .f32) (b : Fin 2) (r c : Fin 768) :
    bits y b (ix2 r c) = 1#1 ↔ Precedes (row y b) c r := by
  show IntOp.ori (FloatOps.cmpf .ogt (down y b (ix2 r c)) (across y b (ix2 r c)))
    (IntOp.andi (FloatOps.cmpf .oeq (down y b (ix2 r c)) (across y b (ix2 r c)))
      (IntOp.cmpi .slt (iota .tc S768x768 32 [1] _ (ix2 r c)) (iota .tc S768x768 32 [0] _ (ix2 r c)))) = 1#1 ↔ _
  rw [down_apply, across_apply, iota_single_apply, iota_single_apply]
  exact bit_iff (row y b) r c

/-- The count of a row, as a column repeated across the table, at `(r, k)`: the count of row `r`. -/
theorem count_along (x : IVec S768 32) (r k : Fin 768) :
    broadcastTo S768x768 (shapeCast S768x1 x shapeCasts_S768_S768x1)
      broadcasts_S768x1_S768x768 (ix2 r k) = x (ix1 r : S768.Idx) := by
  rw [broadcastTo_apply _ _ (ix2 r k) (ix2 r 0 : S768x1.Idx) (by intro a; match a with | ⟨0, _⟩ => rfl | ⟨1, _⟩ => rfl)]
  exact shapeCast_apply x _ _ _ (by rw [Shape.rowMajor_val_one, Shape.rowMajor_val_two]; exact (Nat.mul_one _).symm)

/-! ## The two stored values -/

/-- The matrix a batch entry's first step stores, from the table of comparisons. -/
theorem pay1_bits (i : grid0.Coords) (b : Fin 2) (hb : i 0 = b) (y : Vec Ideal S2x768 .f32) : k0_pay1 i y =
    shapeCast S768x768 (sitofp .f32 (extui 32 (cmpi .eq
      (broadcastTo S768x768 (shapeCast S768x1 (shapeCast S768x1
        (multiReductionI .add [1] S768 (extui 32 (bits (shapeCast S2x768 y shapeCasts_S2x768_S2x768) b) natLt_1_32) 0#32
          reduces_S768x768_S768 rfl) shapeCasts_S768_S768x1) shapeCasts_S768x1_S768x1) broadcasts_S768x1_S768x768)
      (iota .tc S768x768 32 [1] iota_S768x768_d1_w32)) natLt_1_32)) shapeCasts_S768x768_S768x768 := by
  subst hb; rfl

/-- The matrix a batch entry's first step stores is the indicator of the rank in that entry's row. -/
theorem pay1_eq (i : grid0.Coords) (b : Fin 2) (hb : i 0 = b) (y : Vec Ideal S2x768 .f32) : k0_pay1 i y = onehot y b := by
  rw [pay1_bits i b hb, shapeCast_self, shapeCast_self, shapeCast_self]
  funext j
  obtain ⟨r, k, rfl⟩ : ∃ (r k : Fin 768), j = ix2 r k := ⟨j 0, j 1, eq_ix2 j⟩
  show FloatOps.sitofp (F := Ideal) .f32 ((IntOp.cmpi .eq (broadcastTo S768x768 _ _ (ix2 r k)) (iota .tc S768x768 32 [1] _ (ix2 r k))).setWidth 32) = _
  rw [count_along, count_row, iota_single_apply, Finset.filter_congr fun c _ => bits_apply y b r c]
  show FloatOps.sitofp (F := Ideal) .f32 ((BitVec.ofBool (BitVec.ofNat 32 (rank (row y b) r) == BitVec.ofNat 32 k.val)).setWidth 32) = _
  rw [word_eq_iff (rank_le _ _), sitofp_bit]
  simp only [decide_eq_true_iff]
  rfl

/-- A block of the result is the input block times the stored matrix: at `(p, k)` the sum over the channels. -/
theorem pay2_apply (x : Vec Ideal S3136x768 .f32) (z : Vec Ideal S768x768 .f32) (p : Fin 3136) (k : Fin 768) :
    k0_pay2 x z (ix2 p k) = ∑ c : Fin 768, x (ix2 p c) * z (ix2 c k) := by
  unfold k0_pay2
  rw [shapeCast_self]
  refine (Ideal.matmul_plain_apply (M := 3136) (K := 768) (N := 768) none x z _ p k).trans ?_
  rw [show constant (F := Ideal) S3136x768 .f32 0x00000000#32 (ix2 p k) = 0 from Ideal.ofBits_zero_f32, zero_add]

end Cert.Payload
-- ==== Proof.Steps.lean ====
/-
  What one step of the kernel's grid leaves behind: on the first step of a batch entry the indicator of the rank in the
  scratch and the input block times it in the output block; on every later step the scratch as it was and the input
  block times what the scratch holds. So after every step the scratch holds the indicator of the batch entry's ranks.
-/
module

public import proofs.«01_k».proof.Proof.Payload
public import proofs.«01_k».proof.Proof.Gen.KernelIdeal.Frame
public import Idealize.ShloMosaic.Lib.Tactic

@[expose] public section

noncomputable section

open Idealize.ShloMosaic Idealize.ShloMosaic.ValueIdx Idealize.ShloMosaic.TcCoe

namespace Cert.Steps

open Cert.KernelIdeal Cert.KernelIdeal.Gen Cert.Payload

/-- The offset of a load or a store of a whole buffer: zero on both axes. -/
theorem offset_zero : (![0, 0] : Fin 2 → Nat) = fun _ => 0 := funext fun a => by fin_cases a <;> rfl

section Cases

variable (c : Dev nD) (i : grid0.Coords)
  (a2 : Memref sig .tc .vmem S2x768 .f32) (h2 : a2.IsWhole) (a3 : Memref sig .tc .vmem S3136x768 .f32) (h3 : a3.IsWhole)
  (a4 : Memref sig .tc .vmem S3136x768 .f32) (h4 : a4.IsWhole) (a5 : Memref sig .tc .vmem S768x768 .f32) (h5 : a5.IsWhole)

/-- A first step leaves in the scratch the matrix it computes from the table of activations. -/
theorem scratch_first (hc : cond0_0 i) (y : Vec Ideal S2x768 .f32) (x : Vec Ideal S3136x768 .f32) :
    sout0_A_0 (F := Ideal) c i a2 h2 a3 h3 a4 h4 a5 h5 hc y x = k0_pay1 i y := by
  unfold sout0_A_0
  rw [View.read_writes_eq_canon _ _ _ (scover0_A_0 c i a2 h2 a3 h3 a4 h4 a5 h5 hc y x)]
  unfold kernelRun0_A
  dsimp only
  sl_unfold_words
  rw [View.canon_unit_zero offset_zero]
  simp only [View.readAt_eq_ld, h2.read_unread, View.ld_unit_zero (S := S2x768) offset_zero]

/-- A first step leaves in the output block the input block times that matrix. -/
theorem block_first (hc : cond0_0 i) (y : Vec Ideal S2x768 .f32) (x : Vec Ideal S3136x768 .f32) :
    out0_A_2 (F := Ideal) c i a2 h2 a3 h3 a4 h4 a5 h5 hc y x = k0_pay2 x (k0_pay1 i y) := by
  unfold out0_A_2
  rw [View.read_writes_eq_canon _ _ _ (cover0_A_2 c i a2 h2 a3 h3 a4 h4 a5 h5 hc y x)]
  unfold kernelRun0_A
  dsimp only
  sl_unfold_words
  rw [View.canon_unit_zero offset_zero, View.readCov_unit_zero (S := S768x768) _ offset_zero]
  simp only [View.readAt_eq_ld, h2.read_unread, h3.read_unread, View.ld_unit_zero (S := S2x768) offset_zero,
    View.ld_unit_zero (S := S3136x768) offset_zero]

/-- A later step leaves in the output block the input block times what the scratch holds. -/
theorem block_later (hc : ¬cond0_0 i) (y : Vec Ideal S2x768 .f32) (x : Vec Ideal S3136x768 .f32) (z : Vec Ideal S768x768 .f32) :
    out0_B_2 (F := Ideal) c i a2 h2 a3 h3 a4 h4 a5 h5 hc y x z = k0_pay2 x z := by
  unfold out0_B_2
  rw [View.read_writes_eq_canon _ _ _ (cover0_B_2 c i a2 h2 a3 h3 a4 h4 a5 h5 hc y x z)]
  unfold kernelRun0_B
  dsimp only
  sl_unfold_words
  rw [View.canon_unit_zero offset_zero]
  simp only [View.readAt_eq_ld, h3.read_unread, h5.read_unread, View.ld_unit_zero (S := S768x768) offset_zero,
    View.ld_unit_zero (S := S3136x768) offset_zero]

end Cases

variable (m : (ℓ : Loc nD τ sig) → Buf (Elt Ideal) ℓ)

/-- The batch entry of step `t`: sixteen steps each. -/
abbrev entry (t : Fin cfg0.N) : Fin 2 := ⟨t.val / 16, by have := t.isLt; have : cfg0.N = 32 := N_0; omega⟩

/-- The grid's first coordinate at step `t` is the batch entry. -/
theorem coords_entry (t : Fin cfg0.N) : (grid0.coords t) 0 = entry t := by
  have h : ∀ t : Fin grid0.N, ((grid0.coords t) 0).val = t.val / 16 := by decide +kernel
  exact Fin.ext (h t)

/-- The first operand's block is the whole table of activations, whatever the step. -/
theorem table_block (c : Dev nD) (t : Fin cfg0.N) : iblk m c 0 t = V m c main_call0_v27 := by
  funext y
  have h : ∀ t : Fin grid0.N, win0_0.index t 0 = 0 ∧ win0_0.index t 1 = 0 := by decide +kernel
  obtain ⟨h0, h1⟩ := h t
  show V m c main_call0_v27 (((cfg0.win 0).blk t).view.emb y) = V m c main_call0_v27 y
  refine congrArg _ (funext fun a => Fin.ext ?_)
  match a with
  | ⟨0, _⟩ => show win0_0.index t 0 * 2 + 1 * (y 0).val = (y 0).val; omega
  | ⟨1, _⟩ => show win0_0.index t 1 * 768 + 1 * (y 1).val = (y 1).val; omega

/-- After every step the scratch holds the indicator of the ranks in the step's batch entry. -/
theorem scratch_eq (c : Dev nD) : ∀ (n : ℕ) (h : n < cfg0.N),
    (outsAt0 m c n h).2 = onehot (V m c main_call0_v27) (entry ⟨n, h⟩)
  | n, h => by
    by_cases h0 : n % 16 = 0
    · rw [outsAt0_A m c ⟨n, h⟩ h0]
      dsimp only
      rw [scratch_first, table_block, pay1_eq _ _ (coords_entry ⟨n, h⟩)]
    · rw [outsAt0_B m c ⟨n, h⟩ h0]
      dsimp only
      unfold sout0_B_0
      rw [scratch_eq c (n - 1) (by omega)]
      congr 1
      exact Fin.ext (by show (n - 1) / 16 = n / 16; omega)
  termination_by n => n
  decreasing_by omega

/-- After every step the output block holds the input block times that indicator. -/
theorem block_eq (c : Dev nD) (t : Fin cfg0.N) :
    (outsAt0 m c t.val t.isLt).1 = k0_pay2 (iblk m c 1 t) (onehot (V m c main_call0_v27) (entry t)) := by
  by_cases h0 : t.val % 16 = 0
  · rw [outsAt0_A m c t h0]
    dsimp only
    rw [block_first, table_block, pay1_eq _ _ (coords_entry t)]
  · rw [outsAt0_B m c t h0]
    dsimp only
    rw [block_later, scratch_eq]
    congr 2
    exact Fin.ext (by show (t.val - 1) / 16 = t.val / 16; omega)

end Cert.Steps
-- ==== Proof.Result.lean ====
/-
  What the kernel's program returns, from the two arrays its grid reads: the array the grid fills holds, at row `p` and
  column `k`, the input's row `p` at the channel the sort puts at place `k` for that row's batch entry; and the program
  returns that array with its axes put back in the order batch, channel, height, width.
-/
module

public import proofs.«01_k».proof.Proof.Steps
public import Idealize.ShloMosaic.Lib.StableHlo.Run

@[expose] public section

noncomputable section

open Idealize.ShloMosaic Idealize.ShloMosaic.ValueIdx Idealize.ShloMosaic.TcCoe Idealize.SL.Sem
open scoped BigOperators

namespace Cert.Result

open Cert.KernelIdeal Cert.KernelIdeal.Gen Cert.Payload Cert.Steps Cert.Rank

variable (m : (ℓ : Loc nD τ sig) → Buf (Elt Ideal) ℓ)

/-- The channel the decreasing sort of batch entry `b`'s activations puts at place `k`. -/
def channelAt (y : Vec Ideal S2x768 .f32) (b : Fin 2) (k : Fin 768) : Fin 768 := sortedFrom (larger (row y b)) k

/-- An array of 100352 rows with each row's channels rearranged: 50176 rows to a batch entry. -/
def rearranged (y : Vec Ideal S2x768 .f32) (x : Vec Ideal S100352x768 .f32) : Vec Ideal S100352x768 .f32 := fun i =>
  x (ix2 (i 0) (channelAt y ⟨(i 0).val / 50176, by have : (i 0).val < 100352 := (i 0).isLt; omega⟩ (i 1)))

/-- The input block of step `t` at `(p, q)`: the input's row `3136 t + p`, column `q`. -/
theorem input_block (c : Dev nD) (t : Fin cfg0.N) (p : Fin 3136) (q : Fin 768) (r : Fin 100352) (hr : r.val = t.val * 3136 + p.val) :
    iblk m c 1 t (ix2 p q) = V m c main_call0_v29 (ix2 r q) := by
  have h : ∀ t : Fin grid0.N, win0_1.index t 0 = t.val ∧ win0_1.index t 1 = 0 := by decide +kernel
  obtain ⟨h0, h1⟩ := h t
  show V m c main_call0_v29 (((cfg0.win 1).blk t).view.emb (ix2 p q)) = V m c main_call0_v29 (ix2 r q)
  refine congrArg _ (funext fun a => Fin.ext ?_)
  match a with
  | ⟨0, _⟩ => show win0_1.index t 0 * 3136 + 1 * p.val = r.val; rw [h0, hr]; omega
  | ⟨1, _⟩ => show win0_1.index t 1 * 768 + 1 * q.val = q.val; omega

/-- The block of the result array of step `t`: its place in the array. -/
theorem output_place (t : Fin cfg0.N) :
    win0_2.index t (0 : Fin 2) = t.val ∧ win0_2.index t (1 : Fin 2) = 0 :=
  (by decide +kernel : ∀ t : Fin grid0.N, win0_2.index t (0 : Fin 2) = t.val ∧ win0_2.index t (1 : Fin 2) = 0) t

/-- Step `t` writes back its block of the rearranged array. -/
theorem flushed_eq (c : Dev nD) (t : Fin cfg0.N) (_ : (cfg0.win 2).flush t = true) :
    (dats m 0 c).flushed 2 t
      = ((cfg0.win 2).blk t).view.read (Elt Ideal) (rearranged (V m c main_call0_v27) (V m c main_call0_v29)) := by
  show (cfg0.win 2).cut (grid0.coords t) ((dats m 0 c).after 2 t) = _
  rw [after0_2, block_eq]
  obtain ⟨e0, e1⟩ := output_place t
  have ht : t.val < 32 := lt_of_lt_of_eq t.isLt N_0
  funext z
  obtain ⟨p, k, rfl⟩ : ∃ (p : Fin 3136) (k : Fin 768), z = ix2 p k := ⟨z 0, z 1, eq_ix2 z⟩
  have hp := p.isLt
  let r : Fin 100352 := ⟨t.val * 3136 + p.val, by omega⟩
  have he : ((cfg0.win 2).blk t).view.emb (ix2 p k) = (ix2 r k : S100352x768.Idx) := by
    funext a; apply Fin.ext
    match a with
    | ⟨0, _⟩ => show win0_2.index t (0 : Fin 2) * 3136 + 1 * p.val = t.val * 3136 + p.val; rw [e0]; omega
    | ⟨1, _⟩ => show win0_2.index t (1 : Fin 2) * 768 + 1 * k.val = k.val; rw [e1]; omega
  show k0_pay2 (iblk m c 1 t) (onehot (V m c main_call0_v27) (entry t)) (ix2 p k)
    = rearranged (V m c main_call0_v27) (V m c main_call0_v29) (((cfg0.win 2).blk t).view.emb (ix2 p k))
  rw [he, pay2_apply]
  have hb : (⟨r.val / 50176, by have := r.isLt; omega⟩ : Fin 2) = entry t :=
    Fin.ext (by show (t.val * 3136 + p.val) / 50176 = t.val / 16; omega)
  show _ = V m c main_call0_v29 (ix2 r (channelAt (V m c main_call0_v27) ⟨r.val / 50176, _⟩ k))
  rw [hb]
  let x : Fin 768 → EReal := fun q => V m c main_call0_v29 (ix2 r q)
  refine @Eq.trans EReal _ _ _ (Finset.sum_congr rfl fun q _ => ?_) (sum_indicator (row (V m c main_call0_v27) (entry t)) x k)
  rw [input_block m c t p q r rfl]
  rfl

/-- An index of the array is in step `t`'s block exactly when each coordinate is in the block's range. -/
theorem mem_block (t : Fin cfg0.N) (i : S100352x768.Idx) :
    i ∈ ((cfg0.win 2).blk t).view.set ↔ ∀ a : Fin 2, win0_2.index t a * S3136x768.size a ≤ (i a).val
      ∧ (i a).val < win0_2.index t a * S3136x768.size a + S3136x768.size a := by
  show i ∈ ((View.whole main_call0_v30).slice (win0_2.rect t)).set ↔ _
  rw [View.set_slice_whole, Rect.mem_set_unit]
  exact Iff.rfl

/-- The array the grid fills ends as the rearranged input. -/
theorem array_eq (c : Dev nD) :
    (dats m 0 c).arrAt 2 cfg0.N = rearranged (V m c main_call0_v27) (V m c main_call0_v29) :=
  (dats m 0 c).arrAt_eq_of_cover 2 _ (flushed_eq m c) fun i => by
    have h0 : (i 0).val < 100352 := (i 0).isLt
    have h1 : (i 1).val < 768 := (i 1).isLt
    let t : Fin cfg0.N := ⟨(i 0).val / 3136, lt_of_lt_of_eq (by omega) N_0.symm⟩
    obtain ⟨e0, e1⟩ := output_place t
    refine ⟨t, flush0_2 t, (mem_block t i).2 fun a => ?_⟩
    match a with
    | ⟨0, _⟩ =>
      show win0_2.index t (0 : Fin 2) * 3136 ≤ (i 0).val ∧ (i 0).val < win0_2.index t (0 : Fin 2) * 3136 + 3136
      rw [e0]; show (i 0).val / 3136 * 3136 ≤ _ ∧ _ < (i 0).val / 3136 * 3136 + 3136; omega
    | ⟨1, _⟩ =>
      show win0_2.index t (1 : Fin 2) * 768 ≤ (i 1).val ∧ (i 1).val < win0_2.index t (1 : Fin 2) * 768 + 768
      rw [e1]; omega

/-- The operations after the grid put the axes of the array it filled back in order. -/
theorem tail_eq (W : Valuation τ sig (Elt Ideal)) :
    StableHlo.after (List.flatten [hostOps1]) W (Proc.devRef .tc main_v0)
      = transpose S2x768x224x224 [0, 3, 1, 2] (shapeCast S2x224x224x768 (W (Proc.devRef .tc main_call0_v30) : Vec Ideal S100352x768 .f32)
          shapeCasts_S100352x768_S2x224x224x768) transposes_S2x224x224x768_S2x768x224x224_0_3_1_2 := by
  simp only [hostOps1, List.flatten_cons, List.flatten_nil, List.append_nil, StableHlo.TRef.unary, StableHlo.TRef.reshape,
    StableHlo.TRef.toBuf, StableHlo.TRef.ofBuf, cast_eq]
  after_results_simp <;> rfl

/-- No two windows of the grid stage one array. -/
theorem arrays_distinct : Function.Injective (Pipeline.arrRef spec0) := by decide

/-- The program's result, from the two arrays the grid reads. -/
theorem returned_eq (c : Dev nD) :
    Pipeline.afterTail₀ cfgs (dats m) 0 (V0 m) [hostOps1] c main_v0
      = transpose S2x768x224x224 [0, 3, 1, 2] (shapeCast S2x224x224x768
          (rearranged (V m c main_call0_v27) (V m c main_call0_v29)) shapeCasts_S100352x768_S2x224x224x768)
          transposes_S2x224x224x768_S2x768x224x224_0_3_1_2 := by
  unfold Pipeline.afterTail₀
  refine (tail_eq _).trans ?_
  have h := Pipeline.withArrays_arr spec0 arrays_distinct c (V0 m c) (fun w => (dats m 0 c).arrAt w cfg0.N) 2
  rw [← array_eq m c]
  exact congrArg (fun A => transpose S2x768x224x224 [0, 3, 1, 2] (shapeCast S2x224x224x768 (A : Vec Ideal S100352x768 .f32)
    shapeCasts_S100352x768_S2x224x224x768) transposes_S2x224x224x768_S2x768x224x224_0_3_1_2) h

end Cert.Result
-- ==== Proof.Reference.lean ====
/-
  What the reference returns, element by element: the indices the top-k operation gives are the channels the decreasing
  sort puts in order; they lie between zero and 767, so neither the wrap of negative indices nor the fill of those out of
  range changes anything; and the gather reads the input at the channel an index names.
-/
module

public import proofs.«01_k».proof.Proof.Rank
public import proofs.«01_k».proof.Proof.Gen.ReferenceIdeal.Run
public import Idealize.ShloMosaic.Lib.ValueIdx
public import Idealize.ShloMosaic.Lib.Pipeline.Value
public import Idealize.ShloMosaic.Lib.IdealHost

@[expose] public section

noncomputable section

open Idealize.ShloMosaic Idealize.ShloMosaic.ValueIdx

namespace Cert.Reference

open Cert.ReferenceIdeal Cert.ReferenceIdeal.Gen Cert.Rank

/-- The channel the decreasing sort of batch entry `b`'s activations puts at place `k`. -/
abbrev place (y : FVec Ideal S2x768 .f32) (b : Fin 2) (k : Fin 768) : Fin 768 :=
  sortedFrom (larger fun r : Fin 768 => (y (ix2 b r) : EReal)) k

/-! ## The reference's indices -/

/-- The top-k indices, as words. -/
def words (y : FVec Ideal S2x768 .f32) : IVec S2x768 32 :=
  (Host.topK S2x768 1 (FloatOps.cmpfTotal .gt) y sliceFits_S2x768_S2x768).2

/-- The second component of a sort of two operands: that operand at the position the sort of the pairs gives. -/
theorem sort2_snd {s : Shape} {d : Nat} (hd : d < s.rank) {α β : Type} (cmp : α × β → α × β → BitVec 1) (x : s.Idx → α)
    (y : s.Idx → β) (j : s.Idx) : (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- Moving along the second axis of a table changes the second coordinate. -/
theorem along_eq (b : Fin 2) (k r : Fin 768) : (ix2 b k : S2x768.Idx).along 1 r = ix2 b r := by
  funext a
  match a with
  | ⟨0, _⟩ => rfl
  | ⟨1, _⟩ => rfl

/-- The comparison the top-k operation sorts by is the strict decreasing order. -/
theorem compare_eq (u v : EReal) : (FloatOps.cmpfTotal (F := Ideal) (φ := .f32) .gt u v == 1#1) = decide (v < u) := by
  rw [Ideal.cmpfTotal_def]
  show (BitVec.ofBool (decide (v < u)) == 1#1) = _
  cases decide (v < u) <;> rfl

/-- The top-k index at `(b, k)` is the channel at place `k`, as a word. -/
theorem words_apply (y : FVec Ideal S2x768 .f32) (b : Fin 2) (k : Fin 768) :
    words y (ix2 b k) = BitVec.ofNat 32 (place y b k).val := by
  show extractStridedSlice S2x768 (fun _ => 0) (Host.sort2 S2x768 1 (fun l r => FloatOps.cmpfTotal (F := Ideal) .gt l.1 r.1) y
    (iotaInDim S2x768 32 1)).2 sliceFits_S2x768_S2x768 (ix2 b k) = _
  refine (extractStridedSlice_apply _ _ sliceFits_S2x768_S2x768 (ix2 b k : S2x768.Idx) (ix2 b k : S2x768.Idx) (by
    intro a; match a with | ⟨0, _⟩ => exact (Nat.zero_add _).symm | ⟨1, _⟩ => exact (Nat.zero_add _).symm)).trans ?_
  refine (sort2_snd (s := S2x768) (d := 1) (by decide) _ y (iotaInDim S2x768 32 1) (ix2 b k)).trans ?_
  refine (congrArg (iotaInDim S2x768 32 1) (along_eq b k _)).trans (congrArg (fun f => BitVec.ofNat 32 (sortedFrom f k).val) ?_)
  funext r r'
  refine (congrArg₂ (fun i i' => FloatOps.cmpfTotal (F := Ideal) (φ := .f32) .gt (y i) (y i') == 1#1)
    (along_eq b k r) (along_eq b k r')).trans ?_
  exact compare_eq _ _

/-- The indices with negative ones raised by 768, as the gather takes them. -/
def starts (y : FVec Ideal S2x768 .f32) : IVec S2x768x1 32 :=
  shapeCast S2x768x1 (select
    (cmpi .slt (broadcastInDim S2x768x1x1 ![0, 1] bcast_S2x768_S2x768x1x1_0_1 (words y))
      (broadcastInDim S2x768x1x1 ![] bcast_S_S2x768x1x1 (constantI S_ 32 0#32)))
    (addi (broadcastInDim S2x768x1x1 ![0, 1] bcast_S2x768_S2x768x1x1_0_1 (words y))
      (broadcastInDim S2x768x1x1 ![] bcast_S_S2x768x1x1 (constantI S_ 32 768#32)))
    (broadcastInDim S2x768x1x1 ![0, 1] bcast_S2x768_S2x768x1x1_0_1 (words y))) shapeCasts_S2x768x1x1_S2x768x1

/-- A channel number, as a word read signed, is itself. -/
theorem toInt_word (r : Fin 768) : (BitVec.ofNat 32 r.val).toInt = r.val := by
  have hr := r.isLt
  rw [BitVec.toInt_eq_toNat_of_lt] <;> rw [BitVec.toNat_ofNat, Nat.mod_eq_of_lt] <;> omega

/-- No channel number is negative as a word. -/
theorem word_not_negative (r : Fin 768) : IntOp.cmpi .slt (BitVec.ofNat 32 r.val) 0#32 = 0#1 := by
  unfold IntOp.cmpi
  dsimp only
  rw [BitVec.slt, toInt_word, decide_eq_false (by simp)]
  rfl

/-- Every channel number is at least zero as a word. -/
theorem word_lower (r : Fin 768) : IntOp.cmpi .sge (BitVec.ofNat 32 r.val) 0#32 = 1#1 := by
  unfold IntOp.cmpi
  dsimp only
  rw [BitVec.sle, toInt_word, decide_eq_true (by simp)]
  rfl

/-- Every channel number is at most 767 as a word. -/
theorem word_upper (r : Fin 768) : IntOp.cmpi .sle (BitVec.ofNat 32 r.val) 767#32 = 1#1 := by
  have hr := r.isLt
  unfold IntOp.cmpi
  dsimp only
  rw [BitVec.sle, toInt_word, decide_eq_true (by
    have : (767#32).toInt = 767 := by decide
    omega)]
  rfl

/-- The gather's index at `(b, k)` is the channel at place `k`, as a word. -/
theorem starts_apply (y : FVec Ideal S2x768 .f32) (b : Fin 2) (k : Fin 768) :
    starts y (ix3 b k 0) = BitVec.ofNat 32 (place y b k).val := by
  have hw : broadcastInDim S2x768x1x1 ![0, 1] bcast_S2x768_S2x768x1x1_0_1 (words y) (ix4 b k 0 0 : S2x768x1x1.Idx)
      = BitVec.ofNat 32 (place y b k).val :=
    (broadcastInDim_apply _ bcast_S2x768_S2x768x1x1_0_1 (words y) _ (ix2 b k) (by
      intro a; match a with | ⟨0, _⟩ => rfl | ⟨1, _⟩ => rfl)).trans (words_apply y b k)
  unfold starts
  refine (shapeCast_apply _ shapeCasts_S2x768x1x1_S2x768x1 (ix3 b k 0 : S2x768x1.Idx) (ix4 b k 0 0 : S2x768x1x1.Idx) (by
    rw [Shape.rowMajor_val_four, Shape.rowMajor_val_three]
    show ((b.val * 768 + k.val) * 1 + 0) * 1 + 0 = (b.val * 768 + k.val) * 1 + 0
    omega)).trans ?_
  show Scalar.select (IntOp.cmpi .slt (broadcastInDim S2x768x1x1 ![0, 1] bcast_S2x768_S2x768x1x1_0_1 (words y) (ix4 b k 0 0 : S2x768x1x1.Idx)) 0#32)
    (IntOp.addi (broadcastInDim S2x768x1x1 ![0, 1] bcast_S2x768_S2x768x1x1_0_1 (words y) (ix4 b k 0 0 : S2x768x1x1.Idx)) 768#32)
    (broadcastInDim S2x768x1x1 ![0, 1] bcast_S2x768_S2x768x1x1_0_1 (words y) (ix4 b k 0 0 : S2x768x1x1.Idx)) = _
  rw [hw, word_not_negative]
  rfl

/-! ## The range test -/

/-- Where the index lies between zero and 767. -/
def inRange (y : FVec Ideal S2x768 .f32) : IVec S2x768x1 1 :=
  andi (cmpi .sge (starts y) (broadcastInDim S2x768x1 ![] bcast_S_S2x768x1 (constantI S_ 32 0#32)))
    (cmpi .sle (starts y) (broadcastInDim S2x768x1 ![0, 1, 2] bcast_S1x1x1_S2x768x1_0_1_2
      (broadcastInDim S1x1x1 ![2] bcast_S1_S1x1x1_2 (constantI S1 32 767#32))))

/-- Every index lies in range. -/
theorem inRange_apply (y : FVec Ideal S2x768 .f32) (i : S2x768x1.Idx) : inRange y i = 1#1 := by
  obtain ⟨b, k, z, rfl⟩ : ∃ (b : Fin 2) (k : Fin 768) (z : Fin 1), i = ix3 b k z := ⟨i 0, i 1, i 2, eq_ix3 i⟩
  obtain rfl : z = 0 := Subsingleton.elim _ _
  show IntOp.andi (IntOp.cmpi .sge (starts y (ix3 b k 0)) 0#32) (IntOp.cmpi .sle (starts y (ix3 b k 0)) 767#32) = 1#1
  rw [starts_apply, word_lower, word_upper]
  rfl

/-- A conjunction of ones, from one, is one. -/
theorem and_ones {ι : Type} (p : ι → BitVec 1) (hp : ∀ i, p i = 1#1) (l : List ι) :
    l.foldl (fun r i => IntOp.andi r (p i)) 1#1 = 1#1 := by
  induction l with
  | nil => rfl
  | cons a l ih => rw [List.foldl_cons, hp a]; exact ih

/-- The range test along the last axis holds at every place. -/
theorem test_apply (y : FVec Ideal S2x768 .f32) (j : S2x768.Idx) :
    Host.reduce IntOp.andi (inRange y) (constantI S_ 1 1#1) reducesTo_S2x768x1_S2x768_d2 h_S_ j = 1#1 :=
  (Host.reduce_eq_foldl _ _ _ reducesTo_S2x768x1_S2x768_d2 h_S_ j).trans (and_ones (inRange y) (inRange_apply y) _)

/-! ## The gather -/

/-- How the reference's gather takes its operand: the channel from the index, the batch entry along with it, the rest whole. -/
abbrev how : GatherDims S2x768x224x224 S2x768x1 S2x768x224x224 :=
  gather_S2x768x224x224_S2x768x1_S2x768x224x224_23_1_0_0_1_2_11224224

/-- The index the gather looks up for its result at `(b, k, h, w)` is the one at `(b, k)`. -/
theorem lookup_eq (b : Fin 2) (k : Fin 768) (h w : Fin 224) (e : Fin how.startIndexMap.length) :
    how.siIdx (ix4 b k h w) e = (ix3 b k 0 : S2x768x1.Idx) := by
  funext c
  refine Fin.ext ?_
  match c with
  | ⟨0, _⟩ => rfl
  | ⟨1, _⟩ => rfl
  | ⟨2, _⟩ => exact Nat.lt_one_iff.1 (how.siIdx (ix4 b k h w) e 2).isLt

/-- The gather reads the input at the channel its index names. -/
theorem gather_apply (x : FVec Ideal S2x768x224x224 .f32) (n : IVec S2x768x1 32) (b : Fin 2) (k q : Fin 768)
    (hq : n (ix3 b k 0) = BitVec.ofNat 32 q.val) (h w : Fin 224) :
    Host.gather how x n (ix4 b k h w) = x (ix4 b q h w) := by
  unfold Host.gather
  refine congrArg x (funext fun a => Fin.ext ?_)
  show how.start (ix4 b k h w) n a + how.batchCoord (ix4 b k h w) a + how.offCoord (ix4 b k h w) a = _
  have ha : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases ha with rfl | rfl | rfl | rfl
  · have hm : (0 : Fin 4) ∈ how.operandBatchingDims := List.mem_singleton.mpr rfl
    rw [GatherDims.start_batching _ _ _ _ hm, GatherDims.offCoord_eq_zero _ _ _ fun h => ((GatherDims.mem_sKept _ _).mp h).2 hm]
    unfold GatherDims.batchCoord
    rw [dif_pos hm]
    show 0 + b.val + 0 = b.val
    omega
  · have hc : (1 : Fin 4) ∈ how.collapsedSliceDims := List.mem_singleton.mpr rfl
    have hm : (1 : Fin 4) ∈ how.startIndexMap := List.mem_singleton.mpr rfl
    have hn : (1 : Fin 4) ∉ how.operandBatchingDims := fun h => absurd (List.mem_singleton.mp h) (by decide)
    rw [GatherDims.batchCoord_eq_zero _ _ _ hn, GatherDims.offCoord_eq_zero _ _ _ fun h => ((GatherDims.mem_sKept _ _).mp h).1 hc]
    unfold GatherDims.start
    rw [dif_pos hm, lookup_eq, hq, toInt_word]
    have := q.isLt
    show min (Int.toNat q.val) (768 - 1) + 0 + 0 = q.val
    omega
  · have hm : (2 : Fin 4) ∉ how.startIndexMap := fun h => absurd (List.mem_singleton.mp h) (by decide)
    have hn : (2 : Fin 4) ∉ how.operandBatchingDims := fun h => absurd (List.mem_singleton.mp h) (by decide)
    rw [GatherDims.batchCoord_eq_zero _ _ _ hn]
    unfold GatherDims.start
    rw [dif_neg hm]
    show 0 + 0 + h.val = h.val
    omega
  · have hm : (3 : Fin 4) ∉ how.startIndexMap := fun h => absurd (List.mem_singleton.mp h) (by decide)
    have hn : (3 : Fin 4) ∉ how.operandBatchingDims := fun h => absurd (List.mem_singleton.mp h) (by decide)
    rw [GatherDims.batchCoord_eq_zero _ _ _ hn]
    unfold GatherDims.start
    rw [dif_neg hm]
    show 0 + 0 + w.val = w.val
    omega

/-! ## The reference's result -/

/-- The reference's result from the input and the activations. -/
def gathered (x : FVec Ideal S2x768x224x224 .f32) (y : FVec Ideal S2x768 .f32) : FVec Ideal S2x768x224x224 .f32 :=
  select (broadcastInDim S2x768x224x224 ![0, 1] bcast_S2x768_S2x768x224x224_0_1
      (Host.reduce IntOp.andi (inRange y) (constantI S_ 1 1#1) reducesTo_S2x768x1_S2x768_d2 h_S_))
    (Host.gather how x (starts y))
    (broadcastInDim S2x768x224x224 ![] bcast_S_S2x768x224x224 (constant S_ .f32 0x7FC00000#32))

/-- At `(b, k, h, w)` the reference's result is the input at the channel the sort puts at place `k`. -/
theorem gathered_apply (x : FVec Ideal S2x768x224x224 .f32) (y : FVec Ideal S2x768 .f32) (b : Fin 2) (k : Fin 768)
    (h w : Fin 224) : gathered x y (ix4 b k h w) = x (ix4 b (place y b k) h w) := by
  have hm : broadcastInDim S2x768x224x224 ![0, 1] bcast_S2x768_S2x768x224x224_0_1
      (Host.reduce IntOp.andi (inRange y) (constantI S_ 1 1#1) reducesTo_S2x768x1_S2x768_d2 h_S_)
      (ix4 b k h w : S2x768x224x224.Idx) = 1#1 :=
    (broadcastInDim_apply _ bcast_S2x768_S2x768x224x224_0_1 _ _ (ix2 b k) (by
      intro a; match a with | ⟨0, _⟩ => rfl | ⟨1, _⟩ => rfl)).trans (test_apply y (ix2 b k))
  refine Eq.trans ?_ (gather_apply x (starts y) b k (place y b k) (starts_apply y b k) h w)
  show Scalar.select (broadcastInDim S2x768x224x224 ![0, 1] bcast_S2x768_S2x768x224x224_0_1
      (Host.reduce IntOp.andi (inRange y) (constantI S_ 1 1#1) reducesTo_S2x768x1_S2x768_d2 h_S_)
      (ix4 b k h w : S2x768x224x224.Idx)) _ _ = _
  rw [hm]
  rfl

end Cert.Reference
-- ==== Proof.Equation.lean ====
/-
  The equation: from arguments that agree, the array the kernel's program returns and the one the reference returns hold
  the same number at every index, both being the input at the channel the sort puts at that index's place.
-/
module

public import proofs.«01_k».proof.Proof.Activation
public import proofs.«01_k».proof.Proof.Result
public import proofs.«01_k».proof.Proof.Reference

@[expose] public section

noncomputable section

open Idealize.ShloMosaic Idealize.ShloMosaic.ValueIdx Idealize.ShloMosaic.TcCoe Idealize.SL.Sem

namespace Cert.Equation

open Cert.KernelIdeal Cert.KernelIdeal.Gen Cert.Activation Cert.Result

/-- Of the input with its channels moved last and flattened to rows, row `50176 b + 224 h + w` holds the pixel `(h, w)` of
    batch entry `b`. -/
theorem rows_apply (x : FVec Ideal S2x768x224x224 .f32) (b : Fin 2) (h w : Fin 224) (q : Fin 768) (r : Fin 100352)
    (hr : r.val = (b.val * 224 + h.val) * 224 + w.val) :
    shapeCast S100352x768 (transpose S2x224x224x768 [0, 2, 3, 1] x transposes_S2x768x224x224_S2x224x224x768_0_2_3_1)
      shapeCasts_S2x224x224x768_S100352x768 (ix2 r q) = x (ix4 b q h w) := by
  refine (shapeCast_apply _ shapeCasts_S2x224x224x768_S100352x768 (ix2 r q : S100352x768.Idx) (ix4 b h w q : S2x224x224x768.Idx) (by
    rw [Shape.rowMajor_val_four, Shape.rowMajor_val_two]
    show ((b.val * 224 + h.val) * 224 + w.val) * 768 + q.val = r.val * 768 + q.val
    rw [hr])).trans ?_
  exact transpose_apply _ x transposes_S2x768x224x224_S2x224x224x768_0_2_3_1 _ (ix4 b q h w) (by
    intro a; match a with | ⟨0, _⟩ => rfl | ⟨1, _⟩ => rfl | ⟨2, _⟩ => rfl | ⟨3, _⟩ => rfl)

/-- The array of rows put back in the order batch, channel, height, width: at `(b, k, h, w)` it is row
    `50176 b + 224 h + w`, column `k`. -/
theorem back_apply (z : FVec Ideal S100352x768 .f32) (b : Fin 2) (k : Fin 768) (h w : Fin 224) (r : Fin 100352)
    (hr : r.val = (b.val * 224 + h.val) * 224 + w.val) :
    transpose S2x768x224x224 [0, 3, 1, 2] (shapeCast S2x224x224x768 z shapeCasts_S100352x768_S2x224x224x768)
      transposes_S2x224x224x768_S2x768x224x224_0_3_1_2 (ix4 b k h w) = z (ix2 r k) := by
  refine (transpose_apply _ _ transposes_S2x224x224x768_S2x768x224x224_0_3_1_2 (ix4 b k h w : S2x768x224x224.Idx)
    (ix4 b h w k : S2x224x224x768.Idx) (by
      intro a; match a with | ⟨0, _⟩ => rfl | ⟨1, _⟩ => rfl | ⟨2, _⟩ => rfl | ⟨3, _⟩ => rfl)).trans ?_
  exact shapeCast_apply z shapeCasts_S100352x768_S2x224x224x768 _ (ix2 r k : S100352x768.Idx) (by
    rw [Shape.rowMajor_val_four, Shape.rowMajor_val_two]
    show r.val * 768 + k.val = ((b.val * 224 + h.val) * 224 + w.val) * 768 + k.val
    rw [hr])

/-- Rearranging the rows' channels by the sort and putting the axes back is the reference's gather. -/
theorem rearranged_eq_gathered (x : FVec Ideal S2x768x224x224 .f32) (y : FVec Ideal S2x768 .f32) :
    transpose S2x768x224x224 [0, 3, 1, 2] (shapeCast S2x224x224x768 (rearranged y
        (shapeCast S100352x768 (transpose S2x224x224x768 [0, 2, 3, 1] x transposes_S2x768x224x224_S2x224x224x768_0_2_3_1)
          shapeCasts_S2x224x224x768_S100352x768)) shapeCasts_S100352x768_S2x224x224x768)
      transposes_S2x224x224x768_S2x768x224x224_0_3_1_2 = Cert.Reference.gathered x y := by
  funext i
  obtain ⟨b, k, h, w, rfl⟩ : ∃ (b : Fin 2) (k : Fin 768) (h w : Fin 224), i = ix4 b k h w := ⟨i 0, i 1, i 2, i 3, eq_ix4 i⟩
  have hb := b.isLt
  have hh := h.isLt
  have hw := w.isLt
  let r : Fin 100352 := ⟨(b.val * 224 + h.val) * 224 + w.val, by omega⟩
  refine ((back_apply _ b k h w r rfl).trans ?_).trans (Cert.Reference.gathered_apply x y b k h w).symm
  refine (rows_apply x b h w _ r rfl).trans ?_
  have e : (⟨r.val / 50176, by have := r.isLt; omega⟩ : Fin 2) = b :=
    Fin.ext (by show ((b.val * 224 + h.val) * 224 + w.val) / 50176 = b.val; omega)
  show x (ix4 b (channelAt y ⟨r.val / 50176, _⟩ k) h w) = x (ix4 b (channelAt y b k) h w)
  rw [e]

/-- What the kernel's program returns is the reference's gather at the kernel's arguments. -/
theorem returned_eq_gathered (m : (ℓ : Loc nD τ sig) → Buf (Elt Ideal) ℓ) (c : Dev nD) :
    Pipeline.afterTail₀ cfgs (dats m) 0 (V0 m) [hostOps1] c main_v0
      = Cert.Reference.gathered (m ((c : Thread nD τ).loc main_arg0))
          (activations (m ((c : Thread nD τ).loc main_arg0)) (m ((c : Thread nD τ).loc main_arg1))) := by
  rw [returned_eq, table_eq, rows_eq]
  exact rearranged_eq_gathered _ _

/-- What the reference's program returns is its gather at its own arguments. -/
theorem reference_eq_gathered (m : (ℓ : Loc Cert.ReferenceIdeal.nD Cert.ReferenceIdeal.τ Cert.ReferenceIdeal.sig) → Buf (Elt Ideal) ℓ)
    (c : Dev Cert.ReferenceIdeal.nD) : Cert.ReferenceIdeal.Value.res_out0 m c
      = Cert.Reference.gathered (m ((c.tc : Thread Cert.ReferenceIdeal.nD Cert.ReferenceIdeal.τ).loc Cert.ReferenceIdeal.main_arg0))
          (activations (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))) := rfl

end Cert.Equation
-- ==== Proof.lean ====
/-
  The proof of the certificate's claim: both forms of the kernel's program, and the reference's, run to the end without a
  fault, leave their arguments and every semaphore as they were; the idealized kernel is the kernel's own text; and the
  idealized kernel and the reference return equal arrays, element by element, over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Lib.Claim
public import Idealize.ShloMosaic.Lib.Quiescent
public import Idealize.ShloMosaic.Init

@[expose] public section

noncomputable section

namespace Cert.Proof

open Idealize.ShloMosaic Idealize.SL.Sem

/-- The reference's program runs without a fault, leaves its arguments unchanged and every semaphore counter at zero. -/
theorem reference_quiescent : Cert.quiescent_ReferenceIdeal (hReferenceIdeal := Cert.ReferenceIdeal.Gen.facts) := fun m g _ =>
  θ_run_mono (Cert.ReferenceIdeal.Value.run m g) fun r h =>
    ⟨fun c => (h c).2, sem_eq_zero_of_no_sems rfl r.2⟩

/-- From arguments that agree, the idealized kernel and the reference both run, leave their arguments unchanged, and
    return equal arrays. -/
theorem results_equal : Cert.algebraic_KernelIdeal_ReferenceIdeal (hKernelIdeal := Cert.KernelIdeal.Gen.facts)
    (hReferenceIdeal := Cert.ReferenceIdeal.Gen.facts) := fun m g m' g' _ hagree => by
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v0, ?_, ?_⟩
  · refine θ_run_mono (θ_run_and (Cert.KernelIdeal.Gen.run_main m g) (Cert.KernelIdeal.Gen.unchanged m g)) fun r h c => ⟨?_, h.2 c⟩
    exact (h.1 c).2 Cert.KernelIdeal.main_v0 (Pipeline.mem_restRefs_of _ (by decide) (by decide))
  · refine θ_run_mono (Cert.ReferenceIdeal.Value.run m' g') fun r h c => ⟨(h c).1.trans ?_, (h c).2⟩
    refine (Cert.Equation.reference_eq_gathered m' c).trans (Eq.trans ?_ (Cert.Equation.returned_eq_gathered m c).symm)
    rw [(hagree c).1, (hagree c).2]

/-- The claim: the three frames, the idealization, and the equality of the results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_quiescent, trivial, results_equal⟩

end Cert.Proof

end
